-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dilated [hPre_dilated : Cert.Pre_dilated.Facts] (m : (ℓ : Loc Cert.KernelIdeal.nD Cert.KernelIdeal.τ Cert.KernelIdeal.sig) → Buf (Elt Ideal) ℓ) : Prop :=
  ∀ c : Dev Cert.KernelIdeal.nD,
    (Cert.Pre_dilated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dilated [hPre_dilated : Cert.Pre_dilated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dilated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_dilated [hKernelIdeal : Cert.KernelIdeal.Facts] [hPre_dilated : Cert.Pre_dilated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dilated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_dilated [hReferenceIdeal : Cert.ReferenceIdeal.Facts] [hPre_dilated : Cert.Pre_dilated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dilated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_dilated [hKernelIdeal : Cert.KernelIdeal.Facts] [hReferenceIdeal : Cert.ReferenceIdeal.Facts] [hPre_dilated : Cert.Pre_dilated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dilated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_dilated : Cert.Pre_dilated.Facts),
    quiescent_Kernel (hKernel := hKernel)
    ∧ quiescent_KernelIdeal (hKernelIdeal := hKernelIdeal)
    ∧ quiescent_KernelIdeal_pre_dilated (hKernelIdeal := hKernelIdeal) (hPre_dilated := hPre_dilated)
    ∧ quiescent_ReferenceIdeal (hReferenceIdeal := hReferenceIdeal)
    ∧ quiescent_ReferenceIdeal_pre_dilated (hReferenceIdeal := hReferenceIdeal) (hPre_dilated := hPre_dilated)
    ∧ preserves_Kernel_KernelIdeal
    ∧ algebraic_KernelIdeal_ReferenceIdeal_pre_dilated (hKernelIdeal := hKernelIdeal) (hReferenceIdeal := hReferenceIdeal) (hPre_dilated := hPre_dilated)
-- ==== Pre_dilated.lean ====
abbrev S1x2048x2048 : Shape := ⟨3, ![1, 2048, 2048]⟩
abbrev S2048x2048 : Shape := ⟨2, ![2048, 2048]⟩
abbrev S2048x14 : Shape := ⟨2, ![2048, 14]⟩
abbrev S_ : Shape := ⟨0, ![]⟩

class Facts : Prop where
  bcast_S_S2048x14 : S_.BroadcastsInDim S2048x14 (![] : Fin 0 → Fin S2048x14.rank)
  reducesTo_S2048x14_S_d0_1 : S2048x14.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn_where {F : FTy → Type} [FloatOps F] (arg0 : IVec S2048x14 1) (arg1 : IVec S_ 32) (arg2 : IVec S2048x14 32) : IVec S2048x14 32 :=
  let v0 : IVec S_ 32 := id arg1
  let v1 : IVec S2048x14 32 := broadcastInDim S2048x14 ![] bcast_S_S2048x14 v0
  let v2 : IVec S2048x14 32 := select arg0 v1 arg2
  v2

def fn_part1 {F : FTy → Type} [FloatOps F] (main_arg1 : FVec F S2048x2048 .f32) (main_arg2 : FVec F S2048x2048 .f32) (main_v16 : IVec S_ 1) (main_v17 : FVec F S1x2048x2048 .f32) (main_cst : FVec F S_ .f32) : IVec S_ 1 :=
  let main_v18 : FVec F S1x2048x2048 .f32 := broadcastInDim S1x2048x2048 ![] bcast_S_S1x2048x2048 main_cst
  let main_v19 : IVec S1x2048x2048 1 := cmpf .olt main_v17 main_v18
  let main_c_4 : IVec S_ 1 := constantI S_ 1 1#1
  let main_v20 : IVec S_ 1 := (fun x v => Host.reduce IntOp.andi x v reducesTo_S1x2048x2048_S_d0_1_2 h_S_) main_v19 main_c_4
  let main_v21 : IVec S_ 1 := andi main_v16 main_v20
  let main_v22 : FVec F S2048x2048 .f32 := Host.absf main_arg1
  let main_cst_5 : FVec F S_ .f32 := constant S_ .f32 0x7F800000#32
  let main_v23 : FVec F S2048x2048 .f32 := broadcastInDim S2048x2048 ![] bcast_S_S2048x2048 main_cst_5
  let main_v24 : IVec S2048x2048 1 := cmpf .olt main_v22 main_v23
  let main_c_6 : IVec S_ 1 := constantI S_ 1 1#1
  let main_v25 : IVec S_ 1 := (fun x v => Host.reduce IntOp.andi x v reducesTo_S2048x2048_S_d0_1 h_S_) main_v24 main_c_6
  let main_v26 : IVec S_ 1 := andi main_v21 main_v25
  let main_v27 : FVec F S2048x2048 .f32 := Host.absf main_arg2
  let main_cst_7 : FVec F S_ .f32 := constant S_ .f32 0x7F800000#32
  let main_v28 : FVec F S2048x2048 .f32 := broadcastInDim S2048x2048 ![] bcast_S_S2048x2048 main_cst_7
  let main_v29 : IVec S2048x2048 1 := cmpf .olt main_v27 main_v28
  let main_c_8 : IVec S_ 1 := constantI S_ 1 1#1
  let main_v30 : IVec S_ 1 := (fun x v => Host.reduce IntOp.andi x v reducesTo_S2048x2048_S_d0_1 h_S_) main_v29 main_c_8
  let main_v31 : IVec S_ 1 := andi main_v26 main_v30
  main_v31

def fn {F : FTy → Type} [FloatOps F] (main_arg0 : FVec F S1x2048x2048 .f32) (main_arg1 : FVec F S2048x2048 .f32) (main_arg2 : FVec F S2048x2048 .f32) (main_arg3 : FVec F S2048x2048 .f32) (main_arg4 : FVec F S2048x2048 .f32) (main_arg5 : IVec S2048x14 32) (main_arg6 : IVec S2048x14 1) : IVec S_ 1 :=
  let main_v0 : IVec S2048x14 32 := iotaInDim S2048x14 32 0
  let main_v1 : IVec S2048x14 32 := iotaInDim S2048x14 32 1
  let main_c : IVec S_ 32 := constantI S_ 32 0#32
  let main_v2 : IVec S2048x14 32 := broadcastInDim S2048x14 ![] bcast_S_S2048x14 main_c
  let main_v3 : IVec S2048x14 1 := cmpi .eq main_v1 main_v2
  let main_c_0 : IVec S_ 32 := constantI S_ 32 1#32
  let main_v4 : IVec S2048x14 32 := broadcastInDim S2048x14 ![] bcast_S_S2048x14 main_c_0
  let main_v5 : IVec S2048x14 32 := subi main_v1 main_v4
  let main_c_1 : IVec S_ 32 := constantI S_ 32 1#32
  let main_v6 : IVec S2048x14 32 := broadcastInDim S2048x14 ![] bcast_S_S2048x14 main_c_1
  let main_v7 : IVec S2048x14 32 := Host.shli main_v6 main_v5
  let main_c_2 : IVec S_ 32 := constantI S_ 32 0#32
  let main_v8 : IVec S2048x14 32 := fn_where (F := F) main_v3 main_c_2 main_v7
  let main_v9 : IVec S2048x14 1 := cmpi .sge main_v0 main_v8
  let main_v10 : IVec S2048x14 1 := cmpi .eq main_arg6 main_v9
  let main_v11 : IVec S2048x14 1 := noti main_v9
  let main_v12 : IVec S2048x14 32 := subi main_v0 main_v8
  let main_v13 : IVec S2048x14 1 := cmpi .eq main_arg5 main_v12
  let main_v14 : IVec S2048x14 1 := ori main_v11 main_v13
  let main_v15 : IVec S2048x14 1 := andi main_v10 main_v14
  let main_c_3 : IVec S_ 1 := constantI S_ 1 1#1
  let main_v16 : IVec S_ 1 := (fun x v => Host.reduce IntOp.andi x v reducesTo_S2048x14_S_d0_1 h_S_) main_v15 main_c_3
  let main_v17 : FVec F S1x2048x2048 .f32 := Host.absf main_arg0
  let main_cst : FVec F S_ .f32 := constant S_ .f32 0x7F800000#32
  fn_part1 (F := F) main_arg1 main_arg2 main_v16 main_v17 main_cst
-- ==== Kernel.lean ====
abbrev S1x2048x2048 : Shape := ⟨3, ![1, 2048, 2048]⟩
abbrev S2048x2048 : Shape := ⟨2, ![2048, 2048]⟩
abbrev S2048x14 : Shape := ⟨2, ![2048, 14]⟩
abbrev S128x2048 : Shape := ⟨2, ![128, 2048]⟩
abbrev S2048x128 : Shape := ⟨2, ![2048, 128]⟩
abbrev S2048x1 : Shape := ⟨2, ![2048, 1]⟩
abbrev S2048 : Shape := ⟨1, ![2048]⟩
abbrev S1x128 : Shape := ⟨2, ![1, 128]⟩
abbrev S2047x128 : Shape := ⟨2, ![2047, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S128x128 : Shape := ⟨2, ![128, 128]⟩
abbrev S1920x128 : Shape := ⟨2, ![1920, 128]⟩
abbrev S256x128 : Shape := ⟨2, ![256, 128]⟩
abbrev S1792x128 : Shape := ⟨2, ![1792, 128]⟩
abbrev S512x128 : Shape := ⟨2, ![512, 128]⟩
abbrev S1536x128 : Shape := ⟨2, ![1536, 128]⟩
abbrev S1024x128 : Shape := ⟨2, ![1024, 128]⟩
abbrev S512x2048 : Shape := ⟨2, ![512, 2048]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x14, .i32⟩
  | .hbm, ⟨6, _⟩ => ⟨S2048x14, .i1⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .local _ .vmem, ⟨0, _⟩ => ⟨S2048x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S2048x128, .f32⟩
  | .local _ .vmem, ⟨8, _⟩ => ⟨S2048x128, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x512, .f32⟩
  | .local _ .vmem, ⟨14, _⟩ => ⟨S512x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S1x2048x2048 : Shape := ⟨3, ![1, 2048, 2048]⟩
abbrev S2048x2048 : Shape := ⟨2, ![2048, 2048]⟩
abbrev S2048x14 : Shape := ⟨2, ![2048, 14]⟩
abbrev S1x2048x16x128 : Shape := ⟨4, ![1, 2048, 16, 128]⟩
abbrev S1x16x2048x128 : Shape := ⟨4, ![1, 16, 2048, 128]⟩
abbrev S_ : Shape := ⟨0, ![]⟩
abbrev S2048x14x1 : Shape := ⟨3, ![2048, 14, 1]⟩
abbrev S1x16x2048x14x128 : Shape := ⟨5, ![1, 16, 2048, 14, 128]⟩
abbrev S1x16x2048x14 : Shape := ⟨4, ![1, 16, 2048, 14]⟩
abbrev S1x1x2048x14 : Shape := ⟨4, ![1, 1, 2048, 14]⟩
abbrev S1x16x2048 : Shape := ⟨3, ![1, 16, 2048]⟩
abbrev S1x16x2048x1 : Shape := ⟨4, ![1, 16, 2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x14, .i32⟩
  | .hbm, ⟨6, _⟩ => ⟨S2048x14, .i1⟩
  | .hbm, ⟨7, _⟩ => ⟨S2048x2048, .f32⟩
  | .hbm, ⟨8, _⟩ => ⟨S1x2048x2048, .f32⟩
  | .hbm, ⟨9, _⟩ => ⟨S1x2048x16x128, .f32⟩
  | .hbm, ⟨10, _⟩ => ⟨S1x16x2048x128, .f32⟩
  | .hbm, ⟨11, _⟩ => ⟨S2048x2048, .f32⟩
  | .hbm, ⟨12, _⟩ => ⟨S1x2048x2048, .f32⟩
  | .hbm, ⟨13, _⟩ => ⟨S1x2048x16x128, .f32⟩
  | .hbm, ⟨14, _⟩ => ⟨S1x16x2048x128, .f32⟩
  | .hbm, ⟨15, _⟩ => ⟨S2048x2048, .f32⟩
  | .hbm, ⟨16, _⟩ => ⟨S1x2048x2048, .f32⟩
  | .hbm, ⟨17, _⟩ => ⟨S1x2048x16x128, .f32⟩
  | .hbm, ⟨18, _⟩ => ⟨S1x16x2048x128, .f32⟩
  | .hbm, ⟨19, _⟩ => ⟨S_, .i32⟩
  | .hbm, ⟨20, _⟩ => ⟨S2048x14, .i32⟩
  | .hbm, ⟨21, _⟩ => ⟨S2048x14, .i1⟩
  | .hbm, ⟨22, _⟩ => ⟨S_, .i32⟩
  | .hbm, ⟨23, _⟩ => ⟨S2048x14, .i32⟩
  | .hbm, ⟨24, _⟩ => ⟨S2048x14, .i32⟩
  | .hbm, ⟨25, _⟩ => ⟨S2048x14, .i32⟩
  | .hbm, ⟨26, _⟩ => ⟨S2048x14x1, .i32⟩
  | .hbm, ⟨27, _⟩ => ⟨S1x16x2048x14x128, .f32⟩
  | .hbm, ⟨28, _⟩ => ⟨S_, .i32⟩
  | .hbm, ⟨29, _⟩ => ⟨S2048x14, .i32⟩
  | .hbm, ⟨30, _⟩ => ⟨S2048x14, .i1⟩
  | .hbm, ⟨31, _⟩ => ⟨S_, .i32⟩
  | .hbm, ⟨32, _⟩ => ⟨S2048x14, .i32⟩
  | .hbm, ⟨33, _⟩ => ⟨S2048x14, .i32⟩
  | .hbm, ⟨34, _⟩ => ⟨S2048x14, .i32⟩
  | .hbm, ⟨35, _⟩ => ⟨S2048x14x1, .i32⟩
  | .hbm, ⟨36, _⟩ => ⟨S1x16x2048x14x128, .f32⟩
  | .hbm, ⟨37, _⟩ => ⟨S1x16x2048x14, .f32⟩
  | .hbm, ⟨38, _⟩ => ⟨S_, .f32⟩
  | .hbm, ⟨39, _⟩ => ⟨S1x16x2048x14, .f32⟩
  | .hbm, ⟨40, _⟩ => ⟨S1x16x2048x14, .f32⟩
  | .hbm, ⟨41, _⟩ => ⟨S1x1x2048x14, .i1⟩
  | .hbm, ⟨42, _⟩ => ⟨S_, .f32⟩
  | .hbm, ⟨43, _⟩ => ⟨S_, .f32⟩
  | .hbm, ⟨44, _⟩ => ⟨S1x16x2048x14, .i1⟩
  | .hbm, ⟨45, _⟩ => ⟨S1x16x2048x14, .f32⟩
  | .hbm, ⟨46, _⟩ => ⟨S1x16x2048x14, .f32⟩
  | .hbm, ⟨47, _⟩ => ⟨S_, .f32⟩
  | .hbm, ⟨48, _⟩ => ⟨S1x16x2048, .f32⟩
  | .hbm, ⟨49, _⟩ => ⟨S_, .f32⟩
  | .hbm, ⟨50, _⟩ => ⟨S1x16x2048, .f32⟩
  | .hbm, ⟨51, _⟩ => ⟨S1x16x2048, .f32⟩
  | .hbm, ⟨52, _⟩ => ⟨S1x16x2048x1, .f32⟩
  | .hbm, ⟨53, _⟩ => ⟨S1x16x2048x14, .f32⟩
  | .hbm, ⟨54, _⟩ => ⟨S1x16x2048x14, .f32⟩
  | .hbm, ⟨55, _⟩ => ⟨S1x16x2048x14, .f32⟩
  | .hbm, ⟨56, _⟩ => ⟨S_, .f32⟩
  | .hbm, ⟨57, _⟩ => ⟨S1x16x2048, .f32⟩
  | .hbm, ⟨58, _⟩ => ⟨S1x16x2048x1, .f32⟩
  | .hbm, ⟨59, _⟩ => ⟨S1x16x2048x14, .f32⟩
  | .hbm, ⟨60, _⟩ => ⟨S1x16x2048x14, .f32⟩
  | .hbm, ⟨61, _⟩ => ⟨S1x16x2048x128, .f32⟩
  | .hbm, ⟨62, _⟩ => ⟨S1x2048x16x128, .f32⟩
  | .hbm, ⟨63, _⟩ => ⟨S1x2048x2048, .f32⟩
  | .hbm, ⟨64, _⟩ => ⟨S2048x2048, .f32⟩
  | .hbm, ⟨65, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.RefFrame.lean ====
/- The reference's frame: it runs to the end, its arguments unchanged, and it has no counter that could stay raised. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Dilated

open Idealize.ShloMosaic Idealize.SL.Sem Cert.ReferenceIdeal

theorem reference_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩)
    (Cert.ReferenceIdeal.Value.run m ρ)

end Cert.Dilated

end
-- ==== Proof.KernelRun.lean ====
/- The kernel's run, kept with the contents of the result: the launch of the two regions ends with the result array at
   what the last host stretch writes, every argument as launched. -/
module

public import proofs.«01_k».proof.Proof.Gen.KernelIdeal.Frame

@[expose] public section

set_option maxRecDepth 16384

noncomputable section

namespace Cert.Dilated

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs to the end; its result array holds the fold's last contents and its arguments are unchanged. -/
theorem kernel_run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Dilated

end
-- ==== Proof.Online.lean ====
/- The arithmetic of one row: the running softmax over a list of columns, some of them masked, against the softmax taken
   all at once. The scores are real numbers; the values averaged may be any extended reals. -/
module

public import Idealize.ShloMosaic.PureOps.Ideal

@[expose] public section

noncomputable section

namespace Cert.Dilated

open Idealize.ShloMosaic

/-- Multiplication by a nonnegative real distributes over a finite sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A finite sum of real numbers is the same sum of extended reals. -/
theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of column `a` against the reference point `m`: the exponential of the score, zero where masked. -/
def wt (valid : ℕ → Prop) [DecidablePred valid] (s : ℕ → ℝ) (m : ℝ) (a : ℕ) : ℝ := if valid a then Real.exp (s a - m) else 0

section Row

variable (valid : ℕ → Prop) [DecidablePred valid] (s : ℕ → ℝ)

theorem wt_nonneg (m : ℝ) (a : ℕ) : 0 ≤ wt valid s m a := by
  unfold wt; split_ifs
  · exact (Real.exp_pos _).le
  · exact le_rfl

/-- Moving the reference point multiplies every weight by one factor. -/
theorem wt_shift (m m' : ℝ) (a : ℕ) : wt valid s m a * Real.exp (m - m') = wt valid s m' a := by
  unfold wt; split_ifs
  · rw [← Real.exp_add]; congr 1; ring
  · rw [zero_mul]

theorem sum_wt_shift (m m' : ℝ) (n : ℕ) :
    (∑ a ∈ Finset.range n, wt valid s m a) * Real.exp (m - m') = ∑ a ∈ Finset.range n, wt valid s m' a := by
  rw [Finset.sum_mul]; exact Finset.sum_congr rfl fun a _ => wt_shift valid s m m' a

theorem sum_wt_pos (h0 : valid 0) (m : ℝ) (n : ℕ) : 0 < ∑ a ∈ Finset.range (n + 1), wt valid s m a := by
  refine Finset.sum_pos' (fun a _ => wt_nonneg valid s m a) ⟨0, by simp, ?_⟩
  unfold wt; rw [if_pos h0]; exact Real.exp_pos _

/-- What the running softmax holds after `n` columns: a reference point, the total weight against it, and the weighted
    sum of the values against it. -/
def Holds {ι : Type} (v : ℕ → ι → EReal) (n : ℕ) (M L : EReal) (A : ι → EReal) : Prop :=
  ∃ m : ℝ, M = (m : EReal) ∧ L = ((∑ a ∈ Finset.range n, wt valid s m a : ℝ) : EReal)
    ∧ ∀ e, A e = ∑ a ∈ Finset.range n, (wt valid s m a : EReal) * v a e

variable {ι : Type} (v : ℕ → ι → EReal)

/-- One column, unmasked. -/
theorem Holds.step_valid {n : ℕ} {M L : EReal} {A : ι → EReal} (h : Holds valid s v n M L A) (hv : valid n) :
    Holds valid s v (n + 1) (max M (s n : EReal))
      (L * Ideal.exp (M - max M (s n : EReal)) + Ideal.exp ((s n : EReal) - max M (s n : EReal)))
      (fun e => A e * Ideal.exp (M - max M (s n : EReal)) + Ideal.exp ((s n : EReal) - max M (s n : EReal)) * v n e) := by
  obtain ⟨m, rfl, rfl, hA⟩ := h
  have hmax : max (m : EReal) (s n : EReal) = ((max m (s n) : ℝ) : EReal) := (EReal.coe_strictMono.monotone.map_max).symm
  rw [hmax]
  generalize max m (s n) = m'
  have hc : Ideal.exp ((m : EReal) - (m' : EReal)) = ((Real.exp (m - m') : ℝ) : EReal) := by
    rw [← EReal.coe_sub]; rfl
  have hp : Ideal.exp ((s n : EReal) - (m' : EReal)) = ((wt valid s m' n : ℝ) : EReal) := by
    rw [← EReal.coe_sub]; unfold wt; rw [if_pos hv]; rfl
  refine ⟨m', rfl, ?_, fun e => ?_⟩
  · rw [hc, hp, ← EReal.coe_mul, sum_wt_shift, ← EReal.coe_add, Finset.sum_range_succ]
  · simp only [hc, hp, hA, Finset.sum_range_succ]
    rw [sum_mul_real _ _ (Real.exp_pos _).le]
    congr 1
    refine Finset.sum_congr rfl fun a _ => ?_
    rw [mul_right_comm, ← EReal.coe_mul, wt_shift]

/-- One column, masked: the reference point stays, so the factor is one and nothing is added. -/
theorem Holds.step_masked {n : ℕ} {M L : EReal} {A : ι → EReal} (h : Holds valid s v n M L A) (hv : ¬ valid n) (x : ι → EReal) :
    Holds valid s v (n + 1) M (L * Ideal.exp (M - M) + 0) (fun e => A e * Ideal.exp (M - M) + 0 * x e) := by
  obtain ⟨m, rfl, rfl, hA⟩ := h
  have hc : Ideal.exp ((m : EReal) - (m : EReal)) = 1 := by
    rw [← EReal.coe_sub, sub_self]
    show ((Real.exp 0 : ℝ) : EReal) = 1
    rw [Real.exp_zero]; rfl
  have hw : wt valid s m n = 0 := by unfold wt; rw [if_neg hv]
  refine ⟨m, rfl, ?_, fun e => ?_⟩
  · rw [hc, mul_one, add_zero, Finset.sum_range_succ, hw, add_zero]
  · simp only [hc, mul_one, zero_mul, add_zero, Finset.sum_range_succ, hw, EReal.coe_zero, hA]

/-- The first column alone. -/
theorem Holds.first (h0 : valid 0) : Holds valid s v 1 (s 0 : EReal) 1 (v 0) := by
  have hw : wt valid s (s 0) 0 = 1 := by unfold wt; rw [if_pos h0, sub_self, Real.exp_zero]
  exact ⟨s 0, rfl, by simp [hw], fun e => by simp [hw]⟩

/-- The quotient the running softmax ends with is the average under the weights normalised first, at any reference
    point. -/
theorem Holds.quotient {n : ℕ} {M L : EReal} {A : ι → EReal} (h : Holds valid s v (n + 1) M L A) (h0 : valid 0) (m' : ℝ) (e : ι) :
    Ideal.div (A e) L
      = ∑ a ∈ Finset.range (n + 1), Ideal.div (wt valid s m' a : EReal) ((∑ b ∈ Finset.range (n + 1), wt valid s m' b : ℝ) : EReal) * v a e := by
  obtain ⟨m, -, rfl, hA⟩ := h
  have hL := sum_wt_pos valid s h0 m n
  have hL' := sum_wt_pos valid s h0 m' n
  rw [Ideal.div_coe hL.ne', hA, sum_mul_real _ _ (by positivity)]
  refine Finset.sum_congr rfl fun a _ => ?_
  rw [Ideal.div_coe hL'.ne', mul_right_comm, ← EReal.coe_mul, ← EReal.coe_mul]
  congr 2
  rw [← wt_shift valid s m m' a, ← sum_wt_shift valid s m m' (n + 1)]
  have := Real.exp_pos (m - m')
  field_simp

end Row

end Cert.Dilated

end
-- ==== Proof.Step.lean ====
/- One column of the kernel's running softmax, as vector operations over a whole head: the rows turned by the column's
   offset, the scores against them, and the three running vectors after the column. Read at one row it is one step of the
   arithmetic in Online.lean. -/
module

public import proofs.«01_k».proof.Proof.Gen.KernelIdeal
public import proofs.«01_k».proof.Proof.Online
public import Idealize.ShloMosaic.Lib.Pointwise
public import Idealize.ShloMosaic.Lib.WordCmp
public import Idealize.ShloMosaic.Lib.Pipeline.Value

@[expose] public section

set_option maxRecDepth 16384

noncomputable section

namespace Cert.Dilated

open Idealize.ShloMosaic
open Cert.KernelIdeal Cert.KernelIdeal.Facts₀

/-- A block of rows of one head. -/
abbrev Rows := FVec Ideal S2048x128 .f32
/-- One number per row. -/
abbrev Col := FVec Ideal S2048x1 .f32

/-- The rows turned down by `o`: the last `o` rows first, the others after them. -/
def turn (o r : ℕ) (x : Rows) (h₁ : S2048x128.Slices ![r, 0] ⟨2, ![o, 128]⟩) (h₂ : S2048x128.Slices ![0, 0] ⟨2, ![r, 128]⟩)
    (h₃ : Shape.Concatenates [⟨2, ![o, 128]⟩, ⟨2, ![r, 128]⟩] S2048x128 0) : Rows :=
  concatenate S2048x128 0 [⟨⟨2, ![o, 128]⟩, extractStridedSlice ⟨2, ![o, 128]⟩ ![r, 0] x h₁⟩,
    ⟨⟨2, ![r, 128]⟩, extractStridedSlice ⟨2, ![r, 128]⟩ ![0, 0] x h₂⟩] h₃

/-- A row at or past the offset holds the row that many places before it. -/
theorem turn_apply {o r : ℕ} (x : Rows) (h₁) (h₂) (h₃) (i j : Fin 2048) (e : Fin 128) (hr : o + r = 2048) (hij : j.val + o = i.val) :
    turn o r x h₁ h₂ h₃ (ix2 i e) = x (ix2 j e) := by
  unfold turn
  have hjr : j.val < r := by have := i.isLt; omega
  refine (concatenate_pair_apply_right (s₁ := ⟨2, ![o, 128]⟩) (s₂ := ⟨2, ![r, 128]⟩) 0 _ _ h₃ (ix2 i e) rfl rfl (ix2 ⟨j.val, hjr⟩ e) ?_ ?_).trans ?_
  · intro b hb
    match b with
    | ⟨0, _⟩ => exact absurd rfl hb
    | ⟨1, _⟩ => rfl
  · exact hij
  · unfold extractStridedSlice
    congr 1
    funext a
    match a with
    | ⟨0, _⟩ => apply Fin.ext; show 0 + j.val = j.val; omega
    | ⟨1, _⟩ => apply Fin.ext; show 0 + e.val = e.val; omega

/-- The scaled inner products of the rows of `q` with the rows of `k`. -/
def score (q k : Rows) : Col :=
  mulf (shapeCast S2048x1 (multiReduction .add [1] S2048 (mulf q k) 0x00000000#32 reduces_S2048x128_S2048 (.inl rfl) rfl)
    shapeCasts_S2048_S2048x1) (broadcast S2048x1 (Scalar.ofBits .f32 0x3DB504F3#32))

/-- Which rows reach back as far as `w`. -/
def reach (w : BitVec 32) : IVec S2048x1 1 :=
  cmpi .sge (iota .tc S2048x1 32 [0] iota_S2048x1_d0_w32) (broadcast S2048x1 w)

/-- The running vectors: the reference point, the total weight, the weighted rows. -/
structure Carry where
  M : Col
  L : Col
  A : Rows

/-- The reference point after a column of scores `s`, where `c` says which rows have the column. -/
def nextM (c : IVec S2048x1 1) (M s : Col) : Col := select c (maximumf M s) M
/-- The factor that moves to the new reference point. -/
def corr (c : IVec S2048x1 1) (M s : Col) : Col := exp (subf M (nextM c M s))
/-- The weight of the column. -/
def weight (c : IVec S2048x1 1) (M s : Col) : Col :=
  select c (exp (subf s (nextM c M s))) (broadcast S2048x1 (Scalar.ofBits .f32 0x00000000#32))
def nextL (c : IVec S2048x1 1) (M s L : Col) : Col := addf (mulf L (corr c M s)) (weight c M s)
def nextA (c : IVec S2048x1 1) (M s : Col) (A v : Rows) : Rows :=
  addf (mulf A (broadcastTo S2048x128 (corr c M s) broadcasts_S2048x1_S2048x128))
    (mulf (broadcastTo S2048x128 (weight c M s) broadcasts_S2048x1_S2048x128) v)

/-- One column: the rows of the keys and of the values already turned. -/
def next (w : BitVec 32) (q k v : Rows) (c : Carry) : Carry :=
  ⟨nextM (reach w) c.M (score q k), nextL (reach w) c.M (score q k) c.L, nextA (reach w) c.M (score q k) c.A v⟩

/-- The first column: every row with itself. -/
def start (q k v : Rows) : Carry := ⟨score q k, broadcast S2048x1 (Scalar.ofBits .f32 0x3F800000#32), v⟩

/-- The rows averaged. -/
def quotient (c : Carry) : Rows := divf c.A (broadcastTo S2048x128 c.L broadcasts_S2048x1_S2048x128)

theorem score_apply (q k : Rows) (i : Fin 2048) :
    score q k (ix2 i 0) = (∑ e : Fin 128, q (ix2 i e) * k (ix2 i e)) * Ideal.ofBits .f32 0x3DB504F3#32 := by
  pointwise [score]

theorem reach_apply (o : ℕ) (ho : o < 2 ^ 31) (i : Fin 2048) :
    reach (BitVec.ofNat 32 o) (ix2 i 0) = 1#1 ↔ o ≤ i.val := by
  unfold reach
  pointwise
  exact WordCmp.cmpi_sge_ofNat_eq_one_iff (by have := i.isLt; omega) (by omega)

theorem nextM_apply (c : IVec S2048x1 1) (M s : Col) (i : Fin 2048) :
    nextM c M s (ix2 i 0) = if c (ix2 i 0) = 1#1 then max (M (ix2 i 0)) (s (ix2 i 0)) else M (ix2 i 0) := rfl

theorem corr_apply (c : IVec S2048x1 1) (M s : Col) (i : Fin 2048) :
    corr c M s (ix2 i 0) = Ideal.exp (M (ix2 i 0) - nextM c M s (ix2 i 0)) := rfl

theorem weight_apply (c : IVec S2048x1 1) (M s : Col) (i : Fin 2048) :
    weight c M s (ix2 i 0) = if c (ix2 i 0) = 1#1 then Ideal.exp (s (ix2 i 0) - nextM c M s (ix2 i 0)) else 0 := by
  unfold weight
  pointwise
  rfl

theorem nextL_apply (c : IVec S2048x1 1) (M s L : Col) (i : Fin 2048) :
    nextL c M s L (ix2 i 0) = L (ix2 i 0) * corr c M s (ix2 i 0) + weight c M s (ix2 i 0) := rfl

theorem nextA_apply (c : IVec S2048x1 1) (M s : Col) (A v : Rows) (i : Fin 2048) (e : Fin 128) :
    nextA c M s A v (ix2 i e) = A (ix2 i e) * corr c M s (ix2 i 0) + weight c M s (ix2 i 0) * v (ix2 i e) := by
  pointwise [nextA]

theorem quotient_apply (c : Carry) (i : Fin 2048) (e : Fin 128) :
    quotient c (ix2 i e) = Ideal.div (c.A (ix2 i e)) (c.L (ix2 i 0)) := by
  pointwise [quotient]

/-- The offset of column `a`: none, then the powers of two. -/
def off (a : ℕ) : ℕ := if a = 0 then 0 else 2 ^ (a - 1)

/-- The row that column `a` of row `i` names (row 0 where there is none). -/
def prev (i : Fin 2048) (a : ℕ) : Fin 2048 := ⟨i.val - off a, by have := i.isLt; omega⟩

/-- Whether row `i` has column `a`. -/
abbrev has (i : Fin 2048) (a : ℕ) : Prop := off a ≤ i.val

/-- The scale of the scores, as a real number. -/
def scale : ℝ := (Ideal.ofBits .f32 0x3DB504F3#32).toReal

theorem scale_coe : Ideal.ofBits .f32 0x3DB504F3#32 = ((scale : ℝ) : EReal) := by
  unfold scale
  simp [Ideal.ofBits, Ideal.ieee, -EReal.coe_mul]

/-- The score of column `a` at row `i`. -/
def sc (q k : Fin 2048 → Fin 128 → ℝ) (i : Fin 2048) (a : ℕ) : ℝ := (∑ e : Fin 128, q i e * k (prev i a) e) * scale

/-- The row of values column `a` of row `i` names. -/
def val (v : Rows) (i : Fin 2048) (a : ℕ) (e : Fin 128) : EReal := v (ix2 (prev i a) e)

/-- A carry holds the first `n` columns of row `i`. -/
def RowHolds (q k : Fin 2048 → Fin 128 → ℝ) (v : Rows) (i : Fin 2048) (n : ℕ) (c : Carry) : Prop :=
  Holds (has i) (sc q k i) (val v i) n (c.M (ix2 i 0)) (c.L (ix2 i 0)) (fun e => c.A (ix2 i e))

section Rows

variable {q k : Fin 2048 → Fin 128 → ℝ} {Q K V : Rows}

/-- A score of real rows is the real score. -/
theorem score_real (hQ : ∀ i e, Q (ix2 i e) = (q i e : EReal)) (i : Fin 2048) (a : ℕ) (K' : Rows)
    (hK : ∀ e, K' (ix2 i e) = (k (prev i a) e : EReal)) : score Q K' (ix2 i 0) = (sc q k i a : EReal) := by
  rw [score_apply, scale_coe]
  unfold sc
  rw [EReal.coe_mul, coe_sum_real]
  congr 1
  refine Finset.sum_congr rfl fun e _ => ?_
  rw [hQ, hK, EReal.coe_mul]

theorem start_holds (hQ : ∀ i e, Q (ix2 i e) = (q i e : EReal)) (hK : ∀ i e, K (ix2 i e) = (k i e : EReal)) (i : Fin 2048) :
    RowHolds q k V i 1 (start Q K V) := by
  have hp : prev i 0 = i := Fin.ext (by show i.val - off 0 = i.val; simp [off])
  have h := Holds.first (has i) (sc q k i) (val V i) (by show off 0 ≤ _; simp [off])
  unfold RowHolds
  have hM : (start Q K V).M (ix2 i 0) = (sc q k i 0 : EReal) := score_real hQ i 0 K (fun e => by rw [hp, hK])
  have hL : (start Q K V).L (ix2 i 0) = 1 := by unfold start; pointwise
  have hA : (fun e => (start Q K V).A (ix2 i e)) = val V i 0 := by funext e; unfold val; rw [hp]; rfl
  rw [hM, hL, hA]; exact h

/-- One column, from the turned rows. -/
theorem next_holds (hQ : ∀ i e, Q (ix2 i e) = (q i e : EReal)) (hK : ∀ i e, K (ix2 i e) = (k i e : EReal)) (i : Fin 2048)
    {n : ℕ} {c : Carry} (h : RowHolds q k V i n c) {o : ℕ} (ho : off n = o) (hlt : o < 2 ^ 31) (K' V' : Rows)
    (hK' : ∀ j e, j.val + o = i.val → K' (ix2 i e) = K (ix2 j e)) (hV' : ∀ j e, j.val + o = i.val → V' (ix2 i e) = V (ix2 j e)) :
    RowHolds q k V i (n + 1) (next (BitVec.ofNat 32 o) Q K' V' c) := by
  unfold RowHolds
  simp only [next, nextL_apply, nextA_apply, corr_apply, weight_apply, nextM_apply, reach_apply o hlt]
  by_cases hv : o ≤ i.val
  · have hp : (prev i n).val + o = i.val := by show i.val - off n + o = i.val; rw [ho]; omega
    have hs : score Q K' (ix2 i 0) = (sc q k i n : EReal) :=
      score_real hQ i n K' (fun e => by rw [hK' (prev i n) e hp, hK])
    simp only [if_pos hv, hs]
    have := Holds.step_valid (has i) (sc q k i) (val V i) h (by show off n ≤ _; rw [ho]; exact hv)
    refine cast ?_ this
    congr 1
    funext e
    unfold val; rw [hV' _ _ hp]
  · simp only [if_neg hv]
    exact Holds.step_masked (has i) (sc q k i) (val V i) h (by show ¬ off n ≤ _; rw [ho]; exact hv) _

end Rows

end Cert.Dilated

end
-- ==== Proof.Body.lean ====
/- One head's block, as the kernel's first launch leaves it: the eleven columns past the first applied one after the other,
   then the quotient. Each of the launch's values is named as the running vectors after some column. -/
module

public import proofs.«01_k».proof.Proof.Gen.KernelIdeal.Frame
public import proofs.«01_k».proof.Proof.Step

@[expose] public section

set_option maxRecDepth 16384

noncomputable section

namespace Cert.Dilated

open Idealize.ShloMosaic
open Cert.KernelIdeal Cert.KernelIdeal.Gen

def turn1 (x : Rows) : Rows := turn 1 2047 x slices_S2048x128_o2047_0_S1x128 slices_S2048x128_o0_0_S2047x128 concatenates_S1x128_S2047x128_S2048x128_d0
def turn2 (x : Rows) : Rows := turn 2 2046 x slices_S2048x128_o2046_0_S2x128 slices_S2048x128_o0_0_S2046x128 concatenates_S2x128_S2046x128_S2048x128_d0
def turn4 (x : Rows) : Rows := turn 4 2044 x slices_S2048x128_o2044_0_S4x128 slices_S2048x128_o0_0_S2044x128 concatenates_S4x128_S2044x128_S2048x128_d0
def turn8 (x : Rows) : Rows := turn 8 2040 x slices_S2048x128_o2040_0_S8x128 slices_S2048x128_o0_0_S2040x128 concatenates_S8x128_S2040x128_S2048x128_d0
def turn16 (x : Rows) : Rows := turn 16 2032 x slices_S2048x128_o2032_0_S16x128 slices_S2048x128_o0_0_S2032x128 concatenates_S16x128_S2032x128_S2048x128_d0
def turn32 (x : Rows) : Rows := turn 32 2016 x slices_S2048x128_o2016_0_S32x128 slices_S2048x128_o0_0_S2016x128 concatenates_S32x128_S2016x128_S2048x128_d0
def turn64 (x : Rows) : Rows := turn 64 1984 x slices_S2048x128_o1984_0_S64x128 slices_S2048x128_o0_0_S1984x128 concatenates_S64x128_S1984x128_S2048x128_d0
def turn128 (x : Rows) : Rows := turn 128 1920 x slices_S2048x128_o1920_0_S128x128 slices_S2048x128_o0_0_S1920x128 concatenates_S128x128_S1920x128_S2048x128_d0
def turn256 (x : Rows) : Rows := turn 256 1792 x slices_S2048x128_o1792_0_S256x128 slices_S2048x128_o0_0_S1792x128 concatenates_S256x128_S1792x128_S2048x128_d0
def turn512 (x : Rows) : Rows := turn 512 1536 x slices_S2048x128_o1536_0_S512x128 slices_S2048x128_o0_0_S1536x128 concatenates_S512x128_S1536x128_S2048x128_d0
def turn1024 (x : Rows) : Rows := turn 1024 1024 x slices_S2048x128_o1024_0_S1024x128 slices_S2048x128_o0_0_S1024x128 concatenates_S1024x128_S1024x128_S2048x128_d0

variable (q k v : Rows)

/-- The running vectors after the first column, then after each further one. -/
def carry0 : Carry := start q k v
def carry1 : Carry := next 1#32 q (turn1 k) (turn1 v) (carry0 q k v)
def carry2 : Carry := next 2#32 q (turn2 k) (turn2 v) (carry1 q k v)
def carry3 : Carry := next 4#32 q (turn4 k) (turn4 v) (carry2 q k v)
def carry4 : Carry := next 8#32 q (turn8 k) (turn8 v) (carry3 q k v)
def carry5 : Carry := next 16#32 q (turn16 k) (turn16 v) (carry4 q k v)
def carry6 : Carry := next 32#32 q (turn32 k) (turn32 v) (carry5 q k v)
def carry7 : Carry := next 64#32 q (turn64 k) (turn64 v) (carry6 q k v)
def carry8 : Carry := next 128#32 q (turn128 k) (turn128 v) (carry7 q k v)
def carry9 : Carry := next 256#32 q (turn256 k) (turn256 v) (carry8 q k v)
def carry10 : Carry := next 512#32 q (turn512 k) (turn512 v) (carry9 q k v)
def carry11 : Carry := next 1024#32 q (turn1024 k) (turn1024 v) (carry10 q k v)

/-- The row numbers. -/
abbrev rowNo : IVec S2048x1 32 := iota .tc S2048x1 32 [0] iota_S2048x1_d0_w32

/-! What each stretch of the printed body computes, from the running vectors it starts with. -/

theorem pay25_eq : k0_pay25 q k rowNo (carry1 q k v).M = (carry3 q k v).M := rfl
theorem pay26_eq : k0_pay26 q k rowNo (carry1 q k v).M = corr (reach 4#32) (carry2 q k v).M (score q (turn4 k)) := rfl
theorem pay27_eq : k0_pay27 q k rowNo (carry1 q k v).M = weight (reach 4#32) (carry2 q k v).M (score q (turn4 k)) := rfl
theorem pay28_eq : k0_pay28 q k rowNo (carry1 q k v).M (carry1 q k v).L
    = mulf (carry2 q k v).L (corr (reach 4#32) (carry2 q k v).M (score q (turn4 k))) := rfl
theorem pay34_eq : k0_pay34 q k rowNo (carry3 q k v).M (weight (reach 4#32) (carry2 q k v).M (score q (turn4 k)))
    (mulf (carry2 q k v).L (corr (reach 4#32) (carry2 q k v).M (score q (turn4 k)))) = (carry4 q k v).L := rfl
theorem pay35_eq : k0_pay35 q k v rowNo (carry2 q k v).A (turn4 v) (carry3 q k v).M
    (corr (reach 4#32) (carry2 q k v).M (score q (turn4 k))) (weight (reach 4#32) (carry2 q k v).M (score q (turn4 k)))
    = (carry4 q k v).A := rfl
theorem pay39_eq : k0_pay39 q k rowNo (carry3 q k v).M = (carry5 q k v).M := rfl
theorem pay40_eq : k0_pay40 q k rowNo (carry3 q k v).M = corr (reach 16#32) (carry4 q k v).M (score q (turn16 k)) := rfl
theorem pay41_eq : k0_pay41 q k rowNo (carry3 q k v).M = exp (subf (score q (turn16 k)) (carry5 q k v).M) := rfl
theorem pay48_eq : k0_pay48 q k rowNo (carry4 q k v).L (reach 16#32) (carry5 q k v).M
    (corr (reach 16#32) (carry4 q k v).M (score q (turn16 k))) (exp (subf (score q (turn16 k)) (carry5 q k v).M))
    = (carry6 q k v).L := rfl
theorem pay49_eq : k0_pay49 q k v rowNo (carry4 q k v).A (turn16 v) (reach 16#32) (carry5 q k v).M
    (corr (reach 16#32) (carry4 q k v).M (score q (turn16 k))) (exp (subf (score q (turn16 k)) (carry5 q k v).M))
    = (carry6 q k v).A := rfl
theorem pay45_eq : k0_pay45 q k rowNo (carry5 q k v).M = (carry6 q k v).M := rfl
theorem pay53_eq : k0_pay53 q k rowNo (carry5 q k v).M = (carry7 q k v).M := rfl
theorem pay58_eq : k0_pay58 q k rowNo (carry7 q k v).M = (carry8 q k v).M := rfl
theorem pay61_eq : k0_pay61 q k rowNo (carry6 q k v).M (carry6 q k v).L (score q (turn64 k)) (reach 64#32) (carry7 q k v).M
    = (carry8 q k v).L := rfl
theorem pay62_eq : k0_pay62 q k v rowNo (carry6 q k v).M (carry6 q k v).A (turn64 v) (score q (turn64 k)) (reach 64#32)
    (carry7 q k v).M = (carry8 q k v).A := rfl
theorem pay71_eq : k0_pay71 q k rowNo (carry8 q k v).M (score q (turn256 k)) 256#32 = (carry10 q k v).M := rfl
theorem pay74_eq : k0_pay74 q k rowNo (carry8 q k v).M (carry8 q k v).L (score q (turn256 k)) 256#32 = (carry10 q k v).L := rfl
theorem pay75_eq : k0_pay75 q k v rowNo (carry8 q k v).M (carry8 q k v).A (turn256 v) (score q (turn256 k)) 256#32
    = (carry10 q k v).A := rfl
theorem pay1_eq : k0_pay1 rowNo (carry10 q k v).M (carry10 q k v).L (carry10 q k v).A (turn1024 v) (k0_pay77 q k)
    = quotient (carry11 q k v) := rfl

section Start

variable (x : Vec Ideal S2048x2048 .f32) (wq wk wv : Vec Ideal S128x2048 .f32)

theorem pay10_eq : k0_pay10 x wq wk = (carry1 (k0_pay3 x wq) (k0_pay4 x wk) v).M := rfl
theorem pay13_eq : k0_pay13 x wq wk = (carry1 (k0_pay3 x wq) (k0_pay4 x wk) v).L := rfl
theorem pay21_eq : k0_pay21 (k0_pay3 x wq) (k0_pay4 x wk) (k0_pay5 x wv) rowNo (k0_pay7 x wv)
    (carry1 (k0_pay3 x wq) (k0_pay4 x wk) (k0_pay5 x wv)).M (k0_pay14 x wq wk wv) (k0_pay15 x wq wk)
    = (carry2 (k0_pay3 x wq) (k0_pay4 x wk) (k0_pay5 x wv)).A := rfl

end Start

section Out

variable (x0 : Vec Ideal S2048x2048 .f32) (x1 x2 x3 : Vec Ideal S128x2048 .f32)

/-- The stored block is the quotient after the last column. -/
theorem out_eq : out0_4 x0 x1 x2 x3
    = View.canon [⟨r0_2, quotient (carry11 (k0_pay3 (View.ld x0 r0_0) (View.ld x1 r0_1)) (k0_pay4 (View.ld x0 r0_0) (View.ld x2 r0_1))
        (k0_pay5 (View.ld x0 r0_0) (View.ld x3 r0_1)))⟩] := by
  unfold out0_4 k0_pay94 k0_pay93 k0_pay92 k0_pay91 k0_pay90 k0_pay89 k0_pay88 k0_pay87 k0_pay86 k0_pay85 k0_pay84 k0_pay83 k0_pay82 k0_pay81 k0_pay80 k0_pay79 k0_pay78
  generalize View.ld x0 r0_0 = x
  generalize View.ld x1 r0_1 = wq
  generalize View.ld x2 r0_1 = wk
  generalize View.ld x3 r0_1 = wv
  rw [pay10_eq (k0_pay5 x wv), pay13_eq (k0_pay5 x wv), pay21_eq]
  generalize k0_pay3 x wq = q
  generalize k0_pay4 x wk = k
  generalize k0_pay5 x wv = v
  rw [show k0_pay38 rowNo = reach 16#32 from rfl, show k0_pay52 rowNo = reach 64#32 from rfl,
    show k0_pay51 q k = score q (turn64 k) from rfl, show k0_pay64 q k = score q (turn256 k) from rfl,
    show k0_pay22 v = turn4 v from rfl, show k0_pay36 v = turn16 v from rfl, show k0_pay50 v = turn64 v from rfl,
    show k0_pay63 v = turn256 v from rfl, show k0_pay76 v = turn1024 v from rfl,
    pay25_eq, pay26_eq, pay27_eq, pay28_eq, pay34_eq, pay35_eq, pay39_eq, pay40_eq, pay41_eq, pay48_eq, pay49_eq, pay45_eq,
    pay53_eq, pay58_eq, pay61_eq, pay62_eq, pay71_eq, pay74_eq, pay75_eq, pay1_eq]

end Out

end Cert.Dilated

end
-- ==== Proof.Head.lean ====
/- One head read at one row: after its last column the running vectors hold the row's softmax over the columns it has, and
   the quotient is the softmax-weighted sum of the value rows, at whatever reference point. -/
module

public import proofs.«01_k».proof.Proof.Body

@[expose] public section

set_option maxRecDepth 16384

noncomputable section

namespace Cert.Dilated

open Idealize.ShloMosaic
open Cert.KernelIdeal Cert.KernelIdeal.Gen

section Rows

variable {q k : Fin 2048 → Fin 128 → ℝ} {Q K V : Rows}

/-- One column, from the rows as they lie. -/
theorem turn_step (hQ : ∀ i e, Q (ix2 i e) = (q i e : EReal)) (hK : ∀ i e, K (ix2 i e) = (k i e : EReal)) (i : Fin 2048)
    {n : ℕ} {c : Carry} (h : RowHolds q k V i n c) {o r : ℕ} (h₁ h₂ h₃) (ho : off n = o) (hr : o + r = 2048) :
    RowHolds q k V i (n + 1) (next (BitVec.ofNat 32 o) Q (turn o r K h₁ h₂ h₃) (turn o r V h₁ h₂ h₃) c) :=
  next_holds hQ hK i h ho (by omega) _ _ (fun j e hj => turn_apply K h₁ h₂ h₃ i j e hr hj) fun j e hj => turn_apply V h₁ h₂ h₃ i j e hr hj

/-- After the last column of the kernel the twelve columns of a row are held. -/
theorem carry_holds (hQ : ∀ i e, Q (ix2 i e) = (q i e : EReal)) (hK : ∀ i e, K (ix2 i e) = (k i e : EReal)) (i : Fin 2048) :
    RowHolds q k V i 12 (carry11 Q K V) := by
  have h0 : RowHolds q k V i 1 (carry0 Q K V) := start_holds hQ hK i
  have h1 : RowHolds q k V i 2 (carry1 Q K V) := turn_step hQ hK i h0 _ _ _ rfl rfl
  have h2 : RowHolds q k V i 3 (carry2 Q K V) := turn_step hQ hK i h1 _ _ _ rfl rfl
  have h3 : RowHolds q k V i 4 (carry3 Q K V) := turn_step hQ hK i h2 _ _ _ rfl rfl
  have h4 : RowHolds q k V i 5 (carry4 Q K V) := turn_step hQ hK i h3 _ _ _ rfl rfl
  have h5 : RowHolds q k V i 6 (carry5 Q K V) := turn_step hQ hK i h4 _ _ _ rfl rfl
  have h6 : RowHolds q k V i 7 (carry6 Q K V) := turn_step hQ hK i h5 _ _ _ rfl rfl
  have h7 : RowHolds q k V i 8 (carry7 Q K V) := turn_step hQ hK i h6 _ _ _ rfl rfl
  have h8 : RowHolds q k V i 9 (carry8 Q K V) := turn_step hQ hK i h7 _ _ _ rfl rfl
  have h9 : RowHolds q k V i 10 (carry9 Q K V) := turn_step hQ hK i h8 _ _ _ rfl rfl
  have h10 : RowHolds q k V i 11 (carry10 Q K V) := turn_step hQ hK i h9 _ _ _ rfl rfl
  exact turn_step hQ hK i h10 _ _ _ rfl rfl

/-- No row reaches back 2048 places or more: the last two columns are empty. -/
theorem holds_all {i : Fin 2048} {c : Carry} (h : RowHolds q k V i 12 c) : RowHolds q k V i 14 c := by
  have e1 : ∀ m, wt (has i) (sc q k i) m 12 = 0 := fun m => if_neg (by show ¬ 2048 ≤ i.val; have := i.isLt; omega)
  have e2 : ∀ m, wt (has i) (sc q k i) m 13 = 0 := fun m => if_neg (by show ¬ 4096 ≤ i.val; have := i.isLt; omega)
  obtain ⟨m, hM, hL, hA⟩ := h
  refine ⟨m, hM, ?_, fun e => ?_⟩
  · rw [hL]; simp only [Finset.sum_range_succ, e1, e2, add_zero]
  · rw [hA]; simp only [Finset.sum_range_succ _ 12, Finset.sum_range_succ _ 13, e1, e2, EReal.coe_zero, zero_mul, add_zero]

/-- What the head leaves at a row: the softmax over the columns the row has, at the reference point `m`. -/
theorem head_apply (hQ : ∀ i e, Q (ix2 i e) = (q i e : EReal)) (hK : ∀ i e, K (ix2 i e) = (k i e : EReal)) (i : Fin 2048)
    (m : ℝ) (e : Fin 128) : quotient (carry11 Q K V) (ix2 i e)
      = ∑ a ∈ Finset.range 14, Ideal.div (wt (has i) (sc q k i) m a : EReal)
          ((∑ b ∈ Finset.range 14, wt (has i) (sc q k i) m b : ℝ) : EReal) * val V i a e := by
  rw [quotient_apply]
  exact Holds.quotient (has i) (sc q k i) (val V i) (holds_all (carry_holds hQ hK i)) (by show off 0 ≤ _; simp [off]) m e

end Rows

/-! The three projections of a head, at an entry. -/

theorem pay3_apply (x : Vec Ideal S2048x2048 .f32) (w : Vec Ideal S128x2048 .f32) (i : Fin 2048) (e : Fin 128) :
    k0_pay3 x w (ix2 i e) = ∑ d : Fin 2048, x (ix2 i d) * w (ix2 e d) := by
  pointwise [k0_pay3, k0_pay2]

theorem pay4_apply (x : Vec Ideal S2048x2048 .f32) (w : Vec Ideal S128x2048 .f32) (i : Fin 2048) (e : Fin 128) :
    k0_pay4 x w (ix2 i e) = ∑ d : Fin 2048, x (ix2 i d) * w (ix2 e d) := by
  pointwise [k0_pay4, k0_pay2]

theorem pay5_apply (x : Vec Ideal S2048x2048 .f32) (w : Vec Ideal S128x2048 .f32) (i : Fin 2048) (e : Fin 128) :
    k0_pay5 x w (ix2 i e) = ∑ d : Fin 2048, x (ix2 i d) * w (ix2 e d) := by
  pointwise [k0_pay5, k0_pay2]

end Cert.Dilated

end
-- ==== Proof.Regions.lean ====
/- The arrays the kernel's two launches leave: the heads side by side, and their product with the output weights. -/
module

public import proofs.«01_k».proof.Proof.Head
public import Idealize.ShloMosaic.Lib.Pipeline.ValueKit.Geometry
public import Idealize.ShloMosaic.Lib.Pipeline.ValueKit.Acc

@[expose] public section

set_option maxRecDepth 16384

noncomputable section

namespace Cert.Dilated

open Idealize.ShloMosaic
open Cert.KernelIdeal Cert.KernelIdeal.Gen

/-- A matrix of the kernel. -/
abbrev Mat := Vec Ideal S2048x2048 .f32

/-- The rows of a weight matrix that belong to head `h`. -/
def headRows (W : Mat) (h : Fin 16) : Vec Ideal S128x2048 .f32 := fun j => W (ix2 ⟨h.val * 128 + (j 0).val, by have := h.isLt; have := (j 0).isLt; dsimp at this ⊢; omega⟩ (j 1))

/-- One head's block. -/
def headOut (X Wq Wk Wv : Mat) (h : Fin 16) : Rows :=
  quotient (carry11 (k0_pay3 X (headRows Wq h)) (k0_pay4 X (headRows Wk h)) (k0_pay5 X (headRows Wv h)))

/-- The heads side by side. -/
def heads (X Wq Wk Wv : Mat) : Mat := fun j =>
  headOut X Wq Wk Wv ⟨(j 1).val / 128, by have : (j 1).val < 2048 := (j 1).isLt; omega⟩ (ix2 (j 0) ⟨(j 1).val % 128, Nat.mod_lt _ (by decide)⟩)

/-- Rows against rows. -/
def product (A W : Mat) : Mat := fun j => ∑ d : Fin 2048, A (ix2 (j 0) d) * W (ix2 (j 1) d)

/-- An entry of the heads side by side is an entry of its head. -/
theorem heads_apply (X Wq Wk Wv : Mat) (h : Fin 16) (y : S2048x128.Idx) (j : S2048x2048.Idx) (h0 : (j 0).val = (y 0).val)
    (h1 : (j 1).val = h.val * 128 + (y 1).val) : headOut X Wq Wk Wv h y = heads X Wq Wk Wv j := by
  have hy : (y 1).val < 128 := (y 1).isLt
  have e1 : (⟨(j 1).val / 128, by have : (j 1).val < 2048 := (j 1).isLt; omega⟩ : Fin 16) = h := Fin.ext (by show (j 1).val / 128 = _; omega)
  have e2 : (ix2 (j 0) ⟨(j 1).val % 128, Nat.mod_lt _ (by decide)⟩ : S2048x128.Idx) = y := by
    funext a
    match a with
    | ⟨0, _⟩ => exact Fin.ext h0
    | ⟨1, _⟩ => exact Fin.ext (by show (j 1).val % 128 = (y 1).val; omega)
  unfold heads
  rw [e1, e2]

/-- A block of the product is the product of the blocks. -/
theorem product_apply (A W : Mat) (x w : Vec Ideal S512x2048 .f32) (y : S512x512.Idx) (j : S2048x2048.Idx)
    (hx : ∀ d, x (ix2 (y 0) d) = A (ix2 (j 0) d)) (hw : ∀ d, w (ix2 (y 1) d) = W (ix2 (j 1) d)) :
    ∑ d : Fin 2048, x (ix2 (y 0) d) * w (ix2 (y 1) d) = product A W j :=
  Finset.sum_congr rfl fun d _ => by rw [hx, hw]

theorem index0_0 : ∀ t : Fin cfg0.N, win0_0.index t = ![0, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![0, t.val] := (by decide +kernel : ∀ t : Fin grid0.N, _)

section Launches

variable (V : (c : Dev nD) → (l : Ref sig .tc) → Buf (Elt Ideal) ((c.tc : Thread nD τ).loc l)) (c : Dev nD)

theorem N0 : cfg0.N = 16 := by decide +kernel

theorem iblk0_0 (t : Fin cfg0.N) : iblk0 V c 0 t = V c main_v0 := by
  funext y
  blk_simp [iblk0]
  congr 1
  blk_ext [index0_0]

theorem iblk0_1 (t : Fin cfg0.N) : iblk0 V c 1 t = headRows (V c main_arg1) ⟨t.val, t.isLt.trans_eq N0⟩ := by
  funext y
  unfold headRows
  blk_simp [iblk0]
  congr 1
  blk_ext [index0_1]

theorem iblk0_2 (t : Fin cfg0.N) : iblk0 V c 2 t = headRows (V c main_arg2) ⟨t.val, t.isLt.trans_eq N0⟩ := by
  funext y
  unfold headRows
  blk_simp [iblk0]
  congr 1
  blk_ext [index0_2]

theorem iblk0_3 (t : Fin cfg0.N) : iblk0 V c 3 t = headRows (V c main_arg3) ⟨t.val, t.isLt.trans_eq N0⟩ := by
  funext y
  unfold headRows
  blk_simp [iblk0]
  congr 1
  blk_ext [index0_3]

/-- The first launch leaves the heads side by side. -/
theorem launch0 : (dat0 V c).arrAt 4 cfg0.N = heads (V c main_v0) (V c main_arg1) (V c main_arg2) (V c main_arg3) := by
  refine (dat0 V c).arrAt_eq_of_covers 4 _ (by decide +kernel) fun t hf y => ?_
  blk_simp
  rw [after0_4, out_eq]
  frame_out
  rw [iblk0_0, iblk0_1, iblk0_2, iblk0_3]
  refine heads_apply _ _ _ _ ⟨t.val, t.isLt.trans_eq N0⟩ y _ ?_ ?_
  · blk_simp [index0_4]
  · blk_simp [index0_4]

theorem index1_0 : ∀ t : Fin cfg1.N, win1_0.index t = ![(grid1.coords t 0).val, 0] := (by decide +kernel : ∀ t : Fin grid1.N, _)
theorem index1_1 : ∀ t : Fin cfg1.N, win1_1.index t = ![(grid1.coords t 1).val, 0] := (by decide +kernel : ∀ t : Fin grid1.N, _)
theorem index1_2 : ∀ t : Fin cfg1.N, win1_2.index t = ![(grid1.coords t 0).val, (grid1.coords t 1).val] := (by decide +kernel : ∀ t : Fin grid1.N, _)

theorem pay_out_apply (x w : Vec Ideal S512x2048 .f32) (y : S512x512.Idx) :
    k1_pay1 x w y = ∑ d : Fin 2048, x (ix2 (y 0) d) * w (ix2 (y 1) d) := by
  idx_vars y
  pointwise [k1_pay1]

/-- The second launch leaves the product with the output weights. -/
theorem launch1 : (dat1 V c).arrAt 2 cfg1.N = product (V c main_v1) (V c main_arg4) := by
  refine (dat1 V c).arrAt_eq_of_covers 2 _ (by decide +kernel) fun t hf y => ?_
  blk_simp
  rw [after1_2]
  unfold out1_2
  frame_out
  rw [pay_out_apply]
  refine product_apply (V c main_v1) (V c main_arg4) _ _ y _ (fun d => ?_) fun d => ?_
  · blk_simp [iblk1]
    congr 1
    blk_ext [index1_0, index1_2]
  · blk_simp [iblk1]
    congr 1
    blk_ext [index1_1, index1_2]

end Launches

end Cert.Dilated

end
-- ==== Proof.KernelValue.lean ====
/- The kernel's result array, from its arguments: the heads of the input side by side, times the output weights. -/
module

public import proofs.«01_k».proof.Proof.Regions
public import Idealize.ShloMosaic.Lib.StableHlo.Run

@[expose] public section

set_option maxRecDepth 16384

noncomputable section

namespace Cert.Dilated

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- The input as a matrix. -/
def flat (X : Vec Ideal S1x2048x2048 .f32) : Mat := fun j => X (ix3 0 (j 0) (j 1))

/-- The whole kernel's result. -/
def kernelOut (X : Vec Ideal S1x2048x2048 .f32) (Wq Wk Wv Wo : Mat) : Vec Ideal S1x2048x2048 .f32 := fun j =>
  product (heads (flat X) Wq Wk Wv) Wo (ix2 (j 1) (j 2))

theorem flat_eq (X : Vec Ideal S1x2048x2048 .f32) (h) : shapeCast S2048x2048 X h = flat X := by
  funext j
  unfold flat
  idx_vars j
  pointwise

theorem entry_eq : W1 m ρ c (Proc.devRef .tc main_v0) = flat (m ((c : Thread nD τ).loc main_arg0)) := by
  refine Eq.trans ?_ (flat_eq _ shapeCasts_S1x2048x2048_S2048x2048)
  unfold W1 hostOps0
  after_results
  rfl

theorem weights_eq (a : Ref sig .tc) (ha : a ∈ argRefs) : V1 m ρ c a = m ((c : Thread nD τ).loc a) := W1_args m ρ c a ha

theorem middle_eq : V2 m ρ c main_v1 = heads (flat (m ((c : Thread nD τ).loc main_arg0))) (m ((c : Thread nD τ).loc main_arg1))
    (m ((c : Thread nD τ).loc main_arg2)) (m ((c : Thread nD τ).loc main_arg3)) := by
  refine (W2_arr m ρ c 4).trans ?_
  rw [launch0, show V1 m ρ c main_v0 = _ from entry_eq m ρ c, weights_eq m ρ c main_arg1 (by decide), weights_eq m ρ c main_arg2 (by decide), weights_eq m ρ c main_arg3 (by decide)]

theorem last_eq : W3 m ρ c (Proc.devRef .tc main_v2) = product (heads (flat (m ((c : Thread nD τ).loc main_arg0)))
    (m ((c : Thread nD τ).loc main_arg1)) (m ((c : Thread nD τ).loc main_arg2)) (m ((c : Thread nD τ).loc main_arg3)))
    (m ((c : Thread nD τ).loc main_arg4)) := by
  refine (W3_arr m ρ c 2).trans ?_
  rw [launch1, middle_eq, show V2 m ρ c main_arg4 = _ from W2_args m ρ c main_arg4 (by decide)]

/-- What the kernel leaves in its result. -/
theorem result_eq : W4 m ρ c (Proc.devRef .tc main_v3) = kernelOut (m ((c : Thread nD τ).loc main_arg0))
    (m ((c : Thread nD τ).loc main_arg1)) (m ((c : Thread nD τ).loc main_arg2)) (m ((c : Thread nD τ).loc main_arg3))
    (m ((c : Thread nD τ).loc main_arg4)) := by
  have h : W4 m ρ c (Proc.devRef .tc main_v3)
      = shapeCast S1x2048x2048 (W3 m ρ c (Proc.devRef .tc main_v2)) shapeCasts_S2048x2048_S1x2048x2048 := by
    unfold W4 hostOps2
    generalize W3 m ρ c = W
    after_results
    rfl
  rw [h, last_eq]
  funext j
  unfold kernelOut
  idx_vars j
  pointwise

end Cert.Dilated

end
-- ==== Proof.RefParts.lean ====
/- The reference's result as its parts - the projections by head, the rows it picks, the masked scores, their softmax, the
   heads joined - and each part at an entry. -/
module

public import proofs.«01_k».proof.Proof.Gen.ReferenceIdeal.Run
public import Idealize.ShloMosaic.Lib.Pointwise

@[expose] public section

set_option maxRecDepth 16384

noncomputable section

namespace Cert.Dilated.Ref

open Idealize.ShloMosaic
open Cert.ReferenceIdeal Cert.ReferenceIdeal.Gen

abbrev Input := FVec Ideal S1x2048x2048 .f32
abbrev Weight := FVec Ideal S2048x2048 .f32
abbrev ByHead := FVec Ideal S1x16x2048x128 .f32
abbrev Scores := FVec Ideal S1x16x2048x14 .f32

/-- A projection of the input, by head. -/
def proj (X : Input) (W : Weight) : ByHead :=
  transpose S1x16x2048x128 [0, 2, 1, 3] (shapeCast S1x2048x16x128
    (Host.dotGeneral dot_S1x2048x2048_S2048x2048_S1x2048x2048_2_0_01_1_n_n none X (transpose S2048x2048 [1, 0] W transposes_S2048x2048_S2048x2048_1_0))
    shapeCasts_S1x2048x2048_S1x2048x16x128) transposes_S1x2048x16x128_S1x16x2048x128_0_2_1_3

/-- The rows named, a negative one counted from the end. -/
def names (P : IVec S2048x14 32) : IVec S2048x14x1 32 :=
  broadcastInDim S2048x14x1 ![0, 1] bcast_S2048x14_S2048x14x1_0_1
    (select (cmpi .slt P (broadcastInDim S2048x14 ![] bcast_S_S2048x14 (constantI S_ 32 0#32)))
      (addi P (broadcastInDim S2048x14 ![] bcast_S_S2048x14 (constantI S_ 32 2048#32))) P)

/-- The rows picked. -/
def pick (x : ByHead) (P : IVec S2048x14 32) : FVec Ideal S1x16x2048x14x128 .f32 :=
  Host.gather gather_S1x16x2048x128_S2048x14x1_S1x16x2048x14x128_014_2_n_n_2_2_1161128 x (names P)

/-- The scores, at minus infinity where the mask is off. -/
def masked (q k : ByHead) (P : IVec S2048x14 32) (B : IVec S2048x14 1) : Scores :=
  select (broadcastInDim S1x16x2048x14 ![0, 1, 2, 3] bcast_S1x1x2048x14_S1x16x2048x14_0_1_2_3
      (broadcastInDim S1x1x2048x14 ![2, 3] bcast_S2048x14_S1x1x2048x14_2_3 B))
    (mulf (Host.dotGeneral dot_S1x16x2048x128_S1x16x2048x14x128_S1x16x2048x14_3_4_n_3_012_012 none q (pick k P))
      (broadcastInDim S1x16x2048x14 ![] bcast_S_S1x16x2048x14 (constant S_ .f32 0x3DB504F3#32)))
    (broadcastInDim S1x16x2048x14 ![] bcast_S_S1x16x2048x14 (id (constant S_ .f32 0xFF800000#32)))

/-- A row's greatest score. -/
def top (s : Scores) : FVec Ideal S1x16x2048 .f32 :=
  maximumf (broadcastInDim S1x16x2048 ![] bcast_S_S1x16x2048 (constant S_ .f32 0xFF800000#32))
    (Host.reduce FloatOps.maximumf s (constant S_ .f32 0xFF800000#32) reducesTo_S1x16x2048x14_S1x16x2048_d3 h_S_)

/-- One number per row, at each of the row's columns. -/
def spread (t : FVec Ideal S1x16x2048 .f32) : Scores :=
  broadcastInDim S1x16x2048x14 ![0, 1, 2, 3] bcast_S1x16x2048x1_S1x16x2048x14_0_1_2_3
    (broadcastInDim S1x16x2048x1 ![0, 1, 2] bcast_S1x16x2048_S1x16x2048x1_0_1_2 t)

def weights (s : Scores) : Scores := Host.exp (subf s (spread (top s)))

def soft (w : Scores) : Scores :=
  Host.divf w (spread (Host.reduceAdd w (constant S_ .f32 0x00000000#32) reducesTo_S1x16x2048x14_S1x16x2048_d3 h_S_))

/-- The picked rows averaged. -/
def mix (w : Scores) (v : ByHead) (P : IVec S2048x14 32) : ByHead :=
  Host.dotGeneral dot_S1x16x2048x14_S1x16x2048x14x128_S1x16x2048x128_3_3_n_4_012_012 none w (pick v P)

/-- The heads joined, times the output weights. -/
def joined (o : ByHead) (W : Weight) : Input :=
  Host.dotGeneral dot_S1x2048x2048_S2048x2048_S1x2048x2048_2_0_01_1_n_n none
    (shapeCast S1x2048x2048 (transpose S1x2048x16x128 [0, 2, 1, 3] o transposes_S1x16x2048x128_S1x2048x16x128_0_2_1_3) shapeCasts_S1x2048x16x128_S1x2048x2048)
    (transpose S2048x2048 [1, 0] W transposes_S2048x2048_S2048x2048_1_0)

def attention (X : Input) (Wq Wk Wv : Weight) (P : IVec S2048x14 32) (B : IVec S2048x14 1) : ByHead :=
  mix (soft (weights (masked (proj X Wq) (proj X Wk) P B))) (proj X Wv) P

theorem parts_eq (m : (ℓ : Loc nD τ sig) → Buf (Elt Ideal) ℓ) (c : Dev nD) : Value.res_main_v46 m c
    = joined (attention (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5)) (m ((c.tc : Thread nD τ).loc main_arg6)))
      (m ((c.tc : Thread nD τ).loc main_arg4)) := rfl

theorem proj_apply (X : Input) (W : Weight) (h : Fin 16) (r : Fin 2048) (e : Fin 128) :
    proj X W (ix4 0 h r e) = ∑ d : Fin 2048, X (ix3 0 r d) * W (ix2 ⟨h.val * 128 + e.val, by omega⟩ d) := by
  pointwise [proj]

/-- A row number in range names itself. -/
theorem names_apply (P : IVec S2048x14 32) (r : Fin 2048) (a : Fin 14) (hp : (P (ix2 r a)).toNat < 2048) :
    names P (ix3 r a 0) = P (ix2 r a) := by
  have e : names P (ix3 r a 0) = Scalar.select (IntOp.cmpi .slt (P (ix2 r a)) 0#32) (IntOp.addi (P (ix2 r a)) 2048#32) (P (ix2 r a)) := by
    pointwise [names]
  rw [e]
  generalize P (ix2 r a) = w at hp ⊢
  have hs : IntOp.cmpi .slt w 0#32 = 0#1 := by
    have : w.toInt = w.toNat := BitVec.toInt_eq_toNat_of_lt (by omega)
    have : w.slt 0#32 = false := by rw [BitVec.slt_eq_decide]; simp; omega
    simp [IntOp.cmpi, this]
  rw [hs]; rfl

/-- A row picked by a number in range. -/
theorem pick_apply (x : ByHead) (P : IVec S2048x14 32) (h : Fin 16) (r : Fin 2048) (a : Fin 14) (e : Fin 128) (j : Fin 2048)
    (hj : (P (ix2 r a)).toNat = j.val) : pick x P (ix5 0 h r a e) = x (ix4 0 h j e) := by
  have hn := names_apply P r a (by rw [hj]; exact j.isLt)
  unfold pick Host.gather
  congr 1
  funext b
  refine Fin.ext ?_
  generalize hd : gather_S1x16x2048x128_S2048x14x1_S1x16x2048x14x128_014_2_n_n_2_2_1161128 = d
  show d.start (ix5 0 h r a e) (names P) b + d.batchCoord (ix5 0 h r a e) b + d.offCoord (ix5 0 h r a e) b = _
  subst hd
  rw [GatherDims.batchCoord_eq_zero _ _ _ List.not_mem_nil]
  match b with
  | ⟨0, _⟩ => rfl
  | ⟨1, _⟩ =>
    show 0 + 0 + h.val = h.val
    omega
  | ⟨3, _⟩ =>
    show 0 + 0 + e.val = e.val
    omega
  | ⟨2, _⟩ =>
    have hi : (names P (ix3 r a 0)).toInt.toNat = j.val := by
      have := j.isLt
      rw [hn, BitVec.toInt_eq_toNat_of_lt (by omega), hj]; rfl
    rw [GatherDims.offCoord_eq_zero _ _ _ (fun h => ((GatherDims.mem_sKept _ _).mp h).1 (List.mem_singleton.mpr rfl))]
    unfold GatherDims.start
    have hm : (2 : Fin S1x16x2048x128.rank) ∈ gather_S1x16x2048x128_S2048x14x1_S1x16x2048x14x128_014_2_n_n_2_2_1161128.startIndexMap :=
      List.mem_singleton.mpr rfl
    rw [dif_pos (show (⟨2, _⟩ : Fin S1x16x2048x128.rank) ∈ _ from hm)]
    have hsi : gather_S1x16x2048x128_S2048x14x1_S1x16x2048x14x128_014_2_n_n_2_2_1161128.siIdx (ix5 0 h r a e)
        ⟨List.idxOf (2 : Fin 4) [2], List.idxOf_lt_length_iff.2 (List.mem_singleton.mpr rfl)⟩ = ix3 r a 0 := by
      funext b; refine Fin.ext ?_
      match b with
      | ⟨0, _⟩ => rfl
      | ⟨1, _⟩ => rfl
      | ⟨2, _⟩ => rfl
    refine Eq.trans (congrArg (fun i => min (names P i).toInt.toNat 2047 + 0 + 0) hsi) ?_
    show min (names P (ix3 r a 0)).toInt.toNat 2047 + 0 + 0 = j.val
    rw [hi]
    have := j.isLt
    omega

theorem low_word : Ideal.ofBits .f32 0xFF800000#32 = (⊥ : EReal) := by
  simp [Ideal.ofBits, Ideal.ieee, -EReal.coe_mul]

theorem masked_apply (q k : ByHead) (P : IVec S2048x14 32) (B : IVec S2048x14 1) (h : Fin 16) (r : Fin 2048) (a : Fin 14) :
    masked q k P B (ix4 0 h r a) = if B (ix2 r a) = 1#1 then
      (∑ e : Fin 128, q (ix4 0 h r e) * pick k P (ix5 0 h r a e)) * Ideal.ofBits .f32 0x3DB504F3#32 else ⊥ := by
  pointwise [masked]
  show (if B (ix2 r a) = 1#1 then _ else Ideal.ofBits .f32 0xFF800000#32) = _
  rw [low_word]

theorem top_apply (s : Scores) (h : Fin 16) (r : Fin 2048) :
    top s (ix3 0 h r) = Finset.univ.fold max ⊥ fun a : Fin 14 => s (ix4 0 h r a) := by
  pointwise [top]
  rw [low_word]
  exact max_eq_right bot_le

theorem spread_apply (t : FVec Ideal S1x16x2048 .f32) (h : Fin 16) (r : Fin 2048) (a : Fin 14) :
    spread t (ix4 0 h r a) = t (ix3 0 h r) := by
  pointwise [spread]

theorem weights_apply (s : Scores) (h : Fin 16) (r : Fin 2048) (a : Fin 14) :
    weights s (ix4 0 h r a) = Ideal.exp (s (ix4 0 h r a) - top s (ix3 0 h r)) := by
  unfold weights
  show Ideal.exp (s _ - spread (top s) _) = _
  rw [spread_apply]

theorem soft_apply (w : Scores) (h : Fin 16) (r : Fin 2048) (a : Fin 14) :
    soft w (ix4 0 h r a) = Ideal.div (w (ix4 0 h r a)) (∑ b : Fin 14, w (ix4 0 h r b)) := by
  pointwise [soft, spread]

theorem mix_apply (w : Scores) (v : ByHead) (P : IVec S2048x14 32) (h : Fin 16) (r : Fin 2048) (e : Fin 128) :
    mix w v P (ix4 0 h r e) = ∑ a : Fin 14, w (ix4 0 h r a) * pick v P (ix5 0 h r a e) := by
  pointwise [mix]

theorem joined_apply (o : ByHead) (W : Weight) (r c : Fin 2048) :
    joined o W (ix3 0 r c) = ∑ d : Fin 2048, o (ix4 0 ⟨d.val / 128, by omega⟩ r ⟨d.val % 128, by omega⟩) * W (ix2 c d) := by
  pointwise [joined]

end Cert.Dilated.Ref

end
-- ==== Proof.Pre.lean ====
/- What the precondition says, entry by entry: the mask holds exactly where a row reaches back far enough, the position there
   is the row less the offset, and the input and the first two weight matrices are finite. -/
module

public import proofs.«01_k».proof.Pre_dilated
public import proofs.«01_k».proof.Proof.Step
public import Idealize.ShloMosaic.Lib.ReduceAll

@[expose] public section

set_option maxRecDepth 16384

noncomputable section

namespace Cert.Dilated

open Idealize.ShloMosaic
open Cert.Pre_dilated

instance pre_facts : Cert.Pre_dilated.Facts where
  bcast_S_S2048x14 := by decide
  reducesTo_S2048x14_S_d0_1 := by decide
  h_S_ := by decide
  bcast_S_S1x2048x2048 := by decide
  reducesTo_S1x2048x2048_S_d0_1_2 := by decide
  bcast_S_S2048x2048 := by decide
  reducesTo_S2048x2048_S_d0_1 := by decide

theorem and_one : ∀ a b : BitVec 1, IntOp.andi a b = 1#1 → a = 1#1 ∧ b = 1#1 := by decide

theorem high_word : Ideal.ofBits .f32 0x7F800000#32 = (⊤ : EReal) := by
  simp [Ideal.ofBits, Ideal.ieee, -EReal.coe_mul]

/-- A number whose magnitude is below infinity is real. -/
theorem real_of_lt (x : EReal) (h : Ideal.cmp .olt (max x (-x)) (Ideal.ofBits .f32 0x7F800000#32) = 1#1) : ∃ r : ℝ, x = r := by
  rw [high_word] at h
  replace h : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => simp at h
  | coe r => exact ⟨r, rfl⟩
  | top => simp at h

/-- The word of a column's offset. -/
def offWord (a : Fin 14) : BitVec 32 :=
  Scalar.select (IntOp.cmpi .eq (BitVec.ofNat 32 a.val) 0#32) 0#32 (IntOp.shli .host 1#32 (IntOp.subi (BitVec.ofNat 32 a.val) 1#32))

theorem offWord_eq (a : Fin 14) : offWord a = BitVec.ofNat 32 (off a.val) := by
  revert a; decide +kernel

theorem off_lt (a : Fin 14) : off a.val < 2 ^ 31 := by
  revert a; decide +kernel

/-- The comparison of the tables at an entry, as bits. -/
theorem bits : ∀ b v p : BitVec 1, IntOp.andi (IntOp.cmpi .eq b v) (IntOp.ori (~~~v) p) = 1#1 → b = v ∧ (v = 1#1 → p = 1#1) := by
  decide

section Pre

variable (X : FVec Ideal S1x2048x2048 .f32) (Wq Wk Wv Wo : FVec Ideal S2048x2048 .f32) (P : IVec S2048x14 32) (B : IVec S2048x14 1)

structure Given : Prop where
  mask : ∀ (r : Fin 2048) (a : Fin 14), B (ix2 r a) = 1#1 ↔ has r a.val
  position : ∀ (r : Fin 2048) (a : Fin 14), has r a.val → (P (ix2 r a)).toNat = (prev r a.val).val
  input : ∀ j, ∃ x : ℝ, X j = x
  query : ∀ j, ∃ x : ℝ, Wq j = x
  key : ∀ j, ∃ x : ℝ, Wk j = x

theorem given (h : fn (F := Ideal) X Wq Wk Wv Wo P B = fun _ => 1#1) : Given X Wq Wk P B := by
  have h0 := congrFun h ix0
  unfold fn fn_part1 fn_where at h0
  dsimp only at h0
  haveI : Subsingleton S_.Idx := ⟨fun a b => funext fun i => i.elim0⟩
  obtain ⟨h0, hk⟩ := and_one _ _ h0
  obtain ⟨h0, hq⟩ := and_one _ _ h0
  obtain ⟨ht, hx⟩ := and_one _ _ h0
  have ht := Host.reduce_andi_all _ _ _ _ _ ht
  have hx := Host.reduce_andi_all _ _ _ _ _ hx
  have hq := Host.reduce_andi_all _ _ _ _ _ hq
  have hk := Host.reduce_andi_all _ _ _ _ _ hk
  have cell : ∀ (r : Fin 2048) (a : Fin 14), B (ix2 r a) = IntOp.cmpi .sge (BitVec.ofNat 32 r.val) (offWord a)
      ∧ (IntOp.cmpi .sge (BitVec.ofNat 32 r.val) (offWord a) = 1#1 →
        IntOp.cmpi .eq (P (ix2 r a)) (IntOp.subi (BitVec.ofNat 32 r.val) (offWord a)) = 1#1) :=
    fun r a => bits _ _ _ (ht (ix2 r a))
  have sge : ∀ (r : Fin 2048) (a : Fin 14), IntOp.cmpi .sge (BitVec.ofNat 32 r.val) (offWord a) = 1#1 ↔ has r a.val := fun r a => by
    rw [offWord_eq]
    exact WordCmp.cmpi_sge_ofNat_eq_one_iff (by have := r.isLt; omega) (off_lt a)
  refine ⟨fun r a => ?_, fun r a hv => ?_, fun j => ?_, fun j => ?_, fun j => ?_⟩
  · rw [(cell r a).1]; exact sge r a
  · have e := (cell r a).2 ((sge r a).2 hv)
    rw [WordCmp.cmpi_eq_eq, offWord_eq] at e
    have e : P (ix2 r a) = IntOp.subi (BitVec.ofNat 32 r.val) (BitVec.ofNat 32 (off a.val)) := by
      by_contra hne
      rw [decide_eq_false hne] at e
      exact absurd e (by decide)
    rw [e]
    show (BitVec.ofNat 32 r.val - BitVec.ofNat 32 (off a.val)).toNat = r.val - off a.val
    have hv : off a.val ≤ r.val := hv
    have := r.isLt
    rw [BitVec.toNat_sub, BitVec.toNat_ofNat, BitVec.toNat_ofNat]
    omega
  · exact real_of_lt _ (hx j)
  · exact real_of_lt _ (hq j)
  · exact real_of_lt _ (hk j)

end Pre

end Cert.Dilated

end
-- ==== Proof.Equation.lean ====
/- The two programs' results are the same: each head of the kernel is that head of the reference, entry by entry, and both
   join the heads and multiply by the output weights alike. -/
module

public import proofs.«01_k».proof.Proof.KernelValue
public import proofs.«01_k».proof.Proof.RefParts
public import proofs.«01_k».proof.Proof.Pre

@[expose] public section

set_option maxRecDepth 16384

noncomputable section

namespace Cert.Dilated

open Idealize.ShloMosaic

/-! ## A row of the reference's softmax, over the columns the row has -/

section Row

variable {valid : ℕ → Prop} [DecidablePred valid] {s : ℕ → ℝ} {σ : Fin 14 → EReal}

/-- The greatest score of a row with a first column is real. -/
theorem top_real (hσ : ∀ a : Fin 14, σ a = if valid a.val then (s a.val : EReal) else ⊥) (h0 : valid 0) :
    ∃ m : ℝ, Finset.univ.fold max ⊥ σ = (m : EReal) := by
  have hlt : Finset.univ.fold max ⊥ σ < ⊤ := (Finset.fold_max_lt (c := ⊤)).2 ⟨bot_lt_top, fun a _ => by
    rw [hσ]; split
    · exact EReal.coe_lt_top _
    · exact bot_lt_top⟩
  have hle : (s 0 : EReal) ≤ Finset.univ.fold max ⊥ σ :=
    (Finset.le_fold_max (c := (s 0 : EReal))).2 (Or.inr ⟨0, Finset.mem_univ _, by rw [hσ]; exact (if_pos (c := valid (0 : Fin 14).val) h0).ge⟩)
  exact ⟨_, (EReal.coe_toReal hlt.ne ((EReal.bot_lt_coe _).trans_le hle).ne').symm⟩

theorem exp_wt (hσ : ∀ a : Fin 14, σ a = if valid a.val then (s a.val : EReal) else ⊥) (m : ℝ) (a : Fin 14) :
    Ideal.exp (σ a - (m : EReal)) = (wt valid s m a.val : EReal) := by
  rw [hσ]
  unfold wt
  split
  · rw [← EReal.coe_sub]; rfl
  · rw [EReal.bot_sub]; rfl

theorem sum_wt_fin (m : ℝ) : ∑ b : Fin 14, (wt valid s m b.val : EReal) = ((∑ b ∈ Finset.range 14, wt valid s m b : ℝ) : EReal) := by
  rw [coe_sum_real, Finset.sum_range]

end Row

/-! ## Heads -/

section Heads

variable {X : FVec Ideal Cert.KernelIdeal.S1x2048x2048 .f32} {Wq Wk Wv Wo : Mat} {P : IVec Cert.KernelIdeal.S2048x14 32}
  {B : IVec Cert.KernelIdeal.S2048x14 1}

theorem query_eq (X : FVec Ideal Cert.KernelIdeal.S1x2048x2048 .f32) (W : Mat) (h : Fin 16) (i : Fin 2048) (e : Fin 128) :
    Cert.KernelIdeal.Gen.k0_pay3 (flat X) (headRows W h) (ix2 i e) = Ref.proj X W (ix4 0 h i e) := by
  rw [pay3_apply, Ref.proj_apply]; rfl

theorem key_eq (X : FVec Ideal Cert.KernelIdeal.S1x2048x2048 .f32) (W : Mat) (h : Fin 16) (i : Fin 2048) (e : Fin 128) :
    Cert.KernelIdeal.Gen.k0_pay4 (flat X) (headRows W h) (ix2 i e) = Ref.proj X W (ix4 0 h i e) := by
  rw [pay4_apply, Ref.proj_apply]; rfl

theorem value_eq (X : FVec Ideal Cert.KernelIdeal.S1x2048x2048 .f32) (W : Mat) (h : Fin 16) (i : Fin 2048) (e : Fin 128) :
    Cert.KernelIdeal.Gen.k0_pay5 (flat X) (headRows W h) (ix2 i e) = Ref.proj X W (ix4 0 h i e) := by
  rw [pay5_apply, Ref.proj_apply]; rfl

/-- A projection by real weights of a real input is real. -/
theorem proj_real {W : Mat} (hx : ∀ j, ∃ x : ℝ, X j = x) (hw : ∀ j, ∃ x : ℝ, W j = x) (h : Fin 16) :
    ∃ q : Fin 2048 → Fin 128 → ℝ, ∀ i e, Ref.proj X W (ix4 0 h i e) = (q i e : EReal) := by
  choose x hx using hx
  choose w hw using hw
  refine ⟨fun i e => ∑ d : Fin 2048, x (ix3 0 i d) * w (ix2 ⟨h.val * 128 + e.val, by omega⟩ d), fun i e => ?_⟩
  rw [Ref.proj_apply, coe_sum_real]
  refine Finset.sum_congr rfl fun d _ => ?_
  rw [hx, hw, EReal.coe_mul]

/-- A head of the kernel is that head of the reference. -/
theorem head_eq (g : Given X Wq Wk P B) (h : Fin 16) (i : Fin 2048) (e : Fin 128) :
    headOut (flat X) Wq Wk Wv h (ix2 i e) = Ref.attention X Wq Wk Wv P B (ix4 0 h i e) := by
  obtain ⟨q, hq⟩ := proj_real g.input g.query h
  obtain ⟨k, hk⟩ := proj_real g.input g.key h
  have h0 : has i 0 := by show off 0 ≤ i.val; simp [off]
  have hs : ∀ a : Fin 14, Ref.masked (Ref.proj X Wq) (Ref.proj X Wk) P B (ix4 0 h i a)
      = if has i a.val then (sc q k i a.val : EReal) else ⊥ := fun a => by
    rw [Ref.masked_apply]
    by_cases hv : has i a.val
    · rw [if_pos hv, if_pos ((g.mask i a).2 hv), scale_coe]
      unfold sc
      rw [EReal.coe_mul, coe_sum_real]
      congr 1
      refine Finset.sum_congr rfl fun d _ => ?_
      rw [Ref.pick_apply _ P h i a d _ (g.position i a hv), hq, hk, EReal.coe_mul]
    · rw [if_neg hv, if_neg (fun hb => hv ((g.mask i a).1 hb))]
  obtain ⟨m, hm⟩ := top_real hs h0
  have hw : ∀ a : Fin 14, Ref.weights (Ref.masked (Ref.proj X Wq) (Ref.proj X Wk) P B) (ix4 0 h i a)
      = (wt (has i) (sc q k i) m a.val : EReal) := fun a => by
    rw [Ref.weights_apply, Ref.top_apply, hm]; exact exp_wt hs m a
  unfold headOut
  rw [head_apply (q := q) (k := k) (fun i e => (query_eq X Wq h i e).trans (hq i e)) (fun i e => (key_eq X Wk h i e).trans (hk i e)) i m e,
    Finset.sum_range]
  unfold Ref.attention
  rw [Ref.mix_apply]
  refine Finset.sum_congr rfl fun a _ => ?_
  rw [Ref.soft_apply]
  simp only [hw]
  rw [sum_wt_fin]
  by_cases hv : has i a.val
  · rw [Ref.pick_apply _ P h i a e _ (g.position i a hv)]
    unfold val
    rw [value_eq]
  · have hz : wt (has i) (sc q k i) m a.val = 0 := if_neg hv
    have hpos := sum_wt_pos (has i) (sc q k i) h0 m 13
    rw [hz, Ideal.div_coe hpos.ne', EReal.coe_zero, zero_mul, zero_mul, zero_mul]

/-- The kernel's result is the reference's. -/
theorem out_ref_eq (g : Given X Wq Wk P B) : kernelOut X Wq Wk Wv Wo = Ref.joined (Ref.attention X Wq Wk Wv P B) Wo := by
  funext j
  obtain ⟨r, c, rfl⟩ : ∃ r c : Fin 2048, j = ix3 0 r c := ⟨j 1, j 2, by
    funext a
    match a with
    | ⟨0, _⟩ => exact Subsingleton.elim (α := Fin 1) _ _
    | ⟨1, _⟩ => rfl
    | ⟨2, _⟩ => rfl⟩
  rw [Ref.joined_apply]
  show product (heads (flat X) Wq Wk Wv) Wo (ix2 r c) = _
  unfold product
  refine Finset.sum_congr rfl fun d _ => ?_
  exact congrArg (· * Wo (ix2 c d)) (head_eq g ⟨d.val / 128, by omega⟩ r ⟨d.val % 128, by omega⟩)

end Heads

end Cert.Dilated

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefFrame
public import proofs.«01_k».proof.Proof.KernelRun
public import proofs.«01_k».proof.Proof.Equation

@[expose] public section

noncomputable section

namespace Cert.Proof

open Idealize.ShloMosaic Idealize.SL.Sem

/-- The reference's result is the kernel's, from memories that agree on the arguments. -/
theorem algebraic : algebraic_KernelIdeal_ReferenceIdeal_pre_dilated := by
  intro m g m' g' hpre hargs
  refine ⟨fun c => Cert.Dilated.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run _ _ _).mono (fun r h c => ⟨(h c).1.trans (Cert.Dilated.result_eq m g c), (h c).2⟩) (Cert.Dilated.kernel_run m g)
  · refine (θ_run _ _ _).mono (fun r h c => ⟨(h c).1.trans ?_, (h c).2⟩) (Cert.ReferenceIdeal.Value.run m' g')
    obtain ⟨e0, e1, e2, e3, e4, e5, e6⟩ := hargs c
    rw [Cert.Dilated.Ref.parts_eq, e0, e1, e2, e3, e4, e5, e6]
    exact (Cert.Dilated.out_ref_eq (Cert.Dilated.given _ _ _ _ _ _ _ (hpre c))).symm

theorem claim : Cert.Claim :=
  ⟨Cert.Kernel.Gen.facts, Cert.KernelIdeal.Gen.facts, Cert.ReferenceIdeal.Gen.facts, Cert.Dilated.pre_facts,
    fun m ρ _ => Cert.Kernel.Gen.frame m ρ,
    fun m ρ _ => Cert.KernelIdeal.Gen.frame m ρ,
    fun m ρ _ => Cert.KernelIdeal.Gen.frame m ρ,
    fun m ρ _ => Cert.Dilated.reference_frame m ρ,
    fun m ρ _ => Cert.Dilated.reference_frame m ρ,
    trivial,
    algebraic⟩

end Cert.Proof

end
